-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_nine_distinct [hPre_top_nine_distinct : Cert.Pre_top_nine_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_top_nine_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_nine_distinct [hPre_top_nine_distinct : Cert.Pre_top_nine_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_nine_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_top_nine_distinct [hKernelIdeal : Cert.KernelIdeal.Facts] [hPre_top_nine_distinct : Cert.Pre_top_nine_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_nine_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_top_nine_distinct [hReferenceIdeal : Cert.ReferenceIdeal.Facts] [hPre_top_nine_distinct : Cert.Pre_top_nine_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_nine_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "norm_min_sq" .f32 0x179ABE15#32 ((5316911940649 / 5316911983139663491615228241121378304 : ℝ) : EReal)

def algebraic_KernelIdeal_ReferenceIdeal_pre_top_nine_distinct [hKernelIdeal : Cert.KernelIdeal.Facts] [hReferenceIdeal : Cert.ReferenceIdeal.Facts] [hPre_top_nine_distinct : Cert.Pre_top_nine_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_nine_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_top_nine_distinct : Cert.Pre_top_nine_distinct.Facts),
    quiescent_Kernel (hKernel := hKernel)
    ∧ quiescent_KernelIdeal (hKernelIdeal := hKernelIdeal)
    ∧ quiescent_KernelIdeal_pre_top_nine_distinct (hKernelIdeal := hKernelIdeal) (hPre_top_nine_distinct := hPre_top_nine_distinct)
    ∧ quiescent_ReferenceIdeal (hReferenceIdeal := hReferenceIdeal)
    ∧ quiescent_ReferenceIdeal_pre_top_nine_distinct (hReferenceIdeal := hReferenceIdeal) (hPre_top_nine_distinct := hPre_top_nine_distinct)
    ∧ preserves_Kernel_KernelIdeal
    ∧ algebraic_KernelIdeal_ReferenceIdeal_pre_top_nine_distinct (hKernelIdeal := hKernelIdeal) (hReferenceIdeal := hReferenceIdeal) (hPre_top_nine_distinct := hPre_top_nine_distinct)
-- ==== Pre_top_nine_distinct.lean ====
abbrev S8192x1024 : Shape := ⟨2, ![8192, 1024]⟩
abbrev S64x8x1024 : Shape := ⟨3, ![64, 8, 1024]⟩
abbrev S64x1024 : Shape := ⟨2, ![64, 1024]⟩
abbrev S_ : Shape := ⟨0, ![]⟩
abbrev S8192 : Shape := ⟨1, ![8192]⟩
abbrev S8192x1 : Shape := ⟨2, ![8192, 1]⟩
abbrev S64 : Shape := ⟨1, ![64]⟩
abbrev S64x1 : Shape := ⟨2, ![64, 1]⟩
abbrev S1024x64 : Shape := ⟨2, ![1024, 64]⟩
abbrev S8192x64 : Shape := ⟨2, ![8192, 64]⟩
abbrev S8192x9 : Shape := ⟨2, ![8192, 9]⟩
abbrev S8192x8 : Shape := ⟨2, ![8192, 8]⟩

class Facts : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  reducesTo_S64x1024_S64_d1 : S64x1024.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x1024_0_1 : S64x1.BroadcastsInDim S64x1024 (![0, 1] : Fin 2 → Fin S64x1024.rank)
  transposes_S64x1024_S1024x64_1_0 : S64x1024.Transposes [1, 0] S1024x64
  sliceFits_S8192x64_S8192x9 : S8192x64.Slices (fun _ => 0) S8192x9
  slices_S8192x9_S8192x8_0_0 : S8192x9.Slices ![0, 0] S8192x8
  slices_S8192x9_S8192x8_0_1 : S8192x9.Slices ![0, 1] S8192x8
  dot_S8192x1024_S1024x64_S8192x64_1_0_0_1_n_n_wf : DotDims.WF S8192x1024 S1024x64 S8192x64 [1] [0] [0] [1] [] []

variable [Facts]

def dot_S8192x1024_S1024x64_S8192x64_1_0_0_1_n_n : DotDims S8192x1024 S1024x64 S8192x64 where
  lhsContracting := [1]
  rhsContracting := [0]
  lhsNonContracting := [0]
  rhsNonContracting := [1]
  lhsBatch := []
  rhsBatch := []
  wf := dot_S8192x1024_S1024x64_S8192x64_1_0_0_1_n_n_wf
def fn_norm {F : FTy → Type} [FloatOps F] (arg0 : FVec F S8192x1024 .f32) : FVec F S8192x1 .f32 :=
  let v0 : FVec F S8192x1024 .f32 := mulf arg0 arg0
  let cst : FVec F S_ .f32 := constant S_ .f32 0x00000000#32
  let v1 : FVec F S8192 .f32 := (fun x v => Host.reduceAdd x v reducesTo_S8192x1024_S8192_d1 h_S_) v0 cst
  let v2 : FVec F S8192x1 .f32 := broadcastInDim S8192x1 ![0] bcast_S8192_S8192x1_0 v1
  let v3 : FVec F S8192x1 .f32 := Host.sqrt v2
  v3

def fn_norm_0 {F : FTy → Type} [FloatOps F] (arg0 : FVec F S64x1024 .f32) : FVec F S64x1 .f32 :=
  let v0 : FVec F S64x1024 .f32 := mulf arg0 arg0
  let cst : FVec F S_ .f32 := constant S_ .f32 0x00000000#32
  let v1 : FVec F S64 .f32 := (fun x v => Host.reduceAdd x v reducesTo_S64x1024_S64_d1 h_S_) v0 cst
  let v2 : FVec F S64x1 .f32 := broadcastInDim S64x1 ![0] bcast_S64_S64x1_0 v1
  let v3 : FVec F S64x1 .f32 := Host.sqrt v2
  v3

def fn {F : FTy → Type} [FloatOps F] (main_arg0 : FVec F S8192x1024 .f32) (main_arg1 : FVec F S64x8x1024 .f32) (main_arg2 : FVec F S64x1024 .f32) : IVec S8192x8 1 :=
  let main_v0 : FVec F S8192x1 .f32 := fn_norm (F := F) main_arg0
  let main_cst : FVec F S_ .f32 := constant S_ .f32 0x2B8CBCCC#32
  let main_v1 : FVec F S8192x1 .f32 := broadcastInDim S8192x1 ![] bcast_S_S8192x1 main_cst
  let main_v2 : FVec F S8192x1 .f32 := maximumf main_v0 main_v1
  let main_v3 : FVec F S8192x1024 .f32 := broadcastInDim S8192x1024 ![0, 1] bcast_S8192x1_S8192x1024_0_1 main_v2
  let main_v4 : FVec F S8192x1024 .f32 := Host.divf main_arg0 main_v3
  let main_v5 : FVec F S64x1 .f32 := fn_norm_0 (F := F) main_arg2
  let main_cst_0 : FVec F S_ .f32 := constant S_ .f32 0x2B8CBCCC#32
  let main_v6 : FVec F S64x1 .f32 := broadcastInDim S64x1 ![] bcast_S_S64x1 main_cst_0
  let main_v7 : FVec F S64x1 .f32 := maximumf main_v5 main_v6
  let main_v8 : FVec F S64x1024 .f32 := broadcastInDim S64x1024 ![0, 1] bcast_S64x1_S64x1024_0_1 main_v7
  let main_v9 : FVec F S64x1024 .f32 := Host.divf main_arg2 main_v8
  let main_v10 : FVec F S1024x64 .f32 := (transpose S1024x64 [1, 0] · transposes_S64x1024_S1024x64_1_0) main_v9
  let main_v11 : FVec F S8192x64 .f32 := (fun l r => Host.dotGeneral dot_S8192x1024_S1024x64_S8192x64_1_0_0_1_n_n none l r) main_v4 main_v10
  let main_values : FVec F S8192x9 .f32 := (fun x => (Host.topK S8192x9 1 (FloatOps.cmpfTotal .gt) x sliceFits_S8192x64_S8192x9).1) main_v11
  let main_indices : IVec S8192x9 32 := (fun x => (Host.topK S8192x9 1 (FloatOps.cmpfTotal .gt) x sliceFits_S8192x64_S8192x9).2) main_v11
  let main_v12 : FVec F S8192x8 .f32 := (extractStridedSlice S8192x8 ![0, 0] · slices_S8192x9_S8192x8_0_0) main_values
  let main_v13 : FVec F S8192x8 .f32 := (extractStridedSlice S8192x8 ![0, 1] · slices_S8192x9_S8192x8_0_1) main_values
  let main_v14 : IVec S8192x8 1 := cmpf .ogt main_v12 main_v13
  main_v14
-- ==== Kernel.lean ====
abbrev S8192x1024 : Shape := ⟨2, ![8192, 1024]⟩
abbrev S64x8x1024 : Shape := ⟨3, ![64, 8, 1024]⟩
abbrev S64x1024 : Shape := ⟨2, ![64, 1024]⟩
abbrev S2048x1024 : Shape := ⟨2, ![2048, 1024]⟩
abbrev S64 : Shape := ⟨1, ![64]⟩
abbrev S64x1 : Shape := ⟨2, ![64, 1]⟩
abbrev S64x2048 : Shape := ⟨2, ![64, 2048]⟩
abbrev S2048 : Shape := ⟨1, ![2048]⟩
abbrev S1x2048 : Shape := ⟨2, ![1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S64x8x1024, .f32⟩
  | .hbm, ⟨2, _⟩ => ⟨S64x1024, .f32⟩
  | .hbm, ⟨3, _⟩ => ⟨S8192x1024, .f32⟩
  | .local _ .vmem, ⟨0, _⟩ => ⟨S2048x1024, .f32⟩
  | .local _ .vmem, ⟨1, _⟩ => ⟨S2048x1024, .f32⟩
  | .local _ .vmem, ⟨2, _⟩ => ⟨S64x8x1024, .f32⟩
  | .local _ .vmem, ⟨3, _⟩ => ⟨S64x1024, .f32⟩
  | .local _ .vmem, ⟨4, _⟩ => ⟨S2048x1024, .f32⟩
  | .local _ .vmem, ⟨5, _⟩ => ⟨S2048x1024, .f32⟩
  | .local _ .vmem, ⟨6, _⟩ => ⟨S64x1024, .f32⟩
  | .local _ .vmem, ⟨7, _⟩ => ⟨S64x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "norm_min_sq" => some ((5316911940649 / 5316911983139663491615228241121378304 : ℝ) : EReal)
  | _ => none
-- ==== ReferenceIdeal.lean ====
abbrev S8192x1024 : Shape := ⟨2, ![8192, 1024]⟩
abbrev S64x8x1024 : Shape := ⟨3, ![64, 8, 1024]⟩
abbrev S64x1024 : Shape := ⟨2, ![64, 1024]⟩
abbrev S_ : Shape := ⟨0, ![]⟩
abbrev S8192 : Shape := ⟨1, ![8192]⟩
abbrev S8192x1 : Shape := ⟨2, ![8192, 1]⟩
abbrev S64 : Shape := ⟨1, ![64]⟩
abbrev S64x1 : Shape := ⟨2, ![64, 1]⟩
abbrev S1024x64 : Shape := ⟨2, ![1024, 64]⟩
abbrev S8192x64 : Shape := ⟨2, ![8192, 64]⟩
abbrev S8192x8 : Shape := ⟨2, ![8192, 8]⟩
abbrev S8192x8x1 : Shape := ⟨3, ![8192, 8, 1]⟩
abbrev S1 : Shape := ⟨1, ![1]⟩
abbrev S1x1x1 : Shape := ⟨3, ![1, 1, 1]⟩
abbrev S8192x8x8x1024 : Shape := ⟨4, ![8192, 8, 8, 1024]⟩
abbrev S8192x8x1024 : Shape := ⟨3, ![8192, 8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S64x8x1024, .f32⟩
  | .hbm, ⟨2, _⟩ => ⟨S64x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S64x1024, .f32⟩
  | .hbm, ⟨14, _⟩ => ⟨S_, .f32⟩
  | .hbm, ⟨15, _⟩ => ⟨S64, .f32⟩
  | .hbm, ⟨16, _⟩ => ⟨S64x1, .f32⟩
  | .hbm, ⟨17, _⟩ => ⟨S64x1, .f32⟩
  | .hbm, ⟨18, _⟩ => ⟨S_, .f32⟩
  | .hbm, ⟨19, _⟩ => ⟨S64x1, .f32⟩
  | .hbm, ⟨20, _⟩ => ⟨S64x1, .f32⟩
  | .hbm, ⟨21, _⟩ => ⟨S64x1024, .f32⟩
  | .hbm, ⟨22, _⟩ => ⟨S64x1024, .f32⟩
  | .hbm, ⟨23, _⟩ => ⟨S1024x64, .f32⟩
  | .hbm, ⟨24, _⟩ => ⟨S8192x64, .f32⟩
  | .hbm, ⟨25, _⟩ => ⟨S8192x8, .f32⟩
  | .hbm, ⟨26, _⟩ => ⟨S8192x8, .i32⟩
  | .hbm, ⟨27, _⟩ => ⟨S_, .i32⟩
  | .hbm, ⟨28, _⟩ => ⟨S8192x8, .i32⟩
  | .hbm, ⟨29, _⟩ => ⟨S8192x8, .i1⟩
  | .hbm, ⟨30, _⟩ => ⟨S_, .i32⟩
  | .hbm, ⟨31, _⟩ => ⟨S8192x8, .i32⟩
  | .hbm, ⟨32, _⟩ => ⟨S8192x8, .i32⟩
  | .hbm, ⟨33, _⟩ => ⟨S8192x8, .i32⟩
  | .hbm, ⟨34, _⟩ => ⟨S8192x8x1, .i32⟩
  | .hbm, ⟨35, _⟩ => ⟨S1, .i32⟩
  | .hbm, ⟨36, _⟩ => ⟨S_, .i32⟩
  | .hbm, ⟨37, _⟩ => ⟨S8192x8x1, .i32⟩
  | .hbm, ⟨38, _⟩ => ⟨S8192x8x1, .i1⟩
  | .hbm, ⟨39, _⟩ => ⟨S1x1x1, .i32⟩
  | .hbm, ⟨40, _⟩ => ⟨S8192x8x1, .i32⟩
  | .hbm, ⟨41, _⟩ => ⟨S8192x8x1, .i1⟩
  | .hbm, ⟨42, _⟩ => ⟨S8192x8x1, .i1⟩
  | .hbm, ⟨43, _⟩ => ⟨S_, .i1⟩
  | .hbm, ⟨44, _⟩ => ⟨S8192x8, .i1⟩
  | .hbm, ⟨45, _⟩ => ⟨S8192x8x8x1024, .f32⟩
  | .hbm, ⟨46, _⟩ => ⟨S8192x8x8x1024, .i1⟩
  | .hbm, ⟨47, _⟩ => ⟨S_, .f32⟩
  | .hbm, ⟨48, _⟩ => ⟨S8192x8x8x1024, .f32⟩
  | .hbm, ⟨49, _⟩ => ⟨S8192x8x8x1024, .f32⟩
  | .hbm, ⟨50, _⟩ => ⟨S_, .f32⟩
  | .hbm, ⟨51, _⟩ => ⟨S8192x8x1024, .f32⟩
  | .hbm, ⟨52, _⟩ => ⟨S_, .f32⟩
  | .hbm, ⟨53, _⟩ => ⟨S8192x8x1024, .f32⟩
  | .hbm, ⟨54, _⟩ => ⟨S8192x8x1024, .f32⟩
  | .hbm, ⟨55, _⟩ => ⟨S_, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_values : Ref sig .tc := ⟨.hbm, 25, rfl⟩
abbrev main_indices : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_v14 : Ref sig .tc := ⟨.hbm, 46, rfl⟩
abbrev main_call2_cst : Ref sig .tc := ⟨.hbm, 47, rfl⟩
abbrev main_call2_v15 : Ref sig .tc := ⟨.hbm, 48, rfl⟩
abbrev main_v12 : Ref sig .tc := ⟨.hbm, 49, rfl⟩
abbrev main_cst_1 : Ref sig .tc := ⟨.hbm, 50, rfl⟩
abbrev main_v13 : Ref sig .tc := ⟨.hbm, 51, rfl⟩
abbrev main_cst_2 : Ref sig .tc := ⟨.hbm, 52, rfl⟩
abbrev main_v14 : Ref sig .tc := ⟨.hbm, 53, rfl⟩
abbrev main_v15 : Ref sig .tc := ⟨.hbm, 54, rfl⟩
abbrev main_cst_3 : Ref sig .tc := ⟨.hbm, 55, rfl⟩
abbrev main_v16 : Ref sig .tc := ⟨.hbm, 56, rfl⟩
abbrev main_cst_4 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩

abbrev nD : Nat := 1
abbrev τ : Topo := Topo.v7x

variable {F : FTy → Type} [FloatOps F]
-- ==== Proof.Norm.lean ====
/- Lengths of rows and dot products of rows over the extended reals: the reciprocal square root of a floored sum of squares is
   the reciprocal of the floored length, and a row of finite length may be normalised before or after a dot product. -/
module

public import Idealize.ShloMosaic.PureOps.Ideal.Laws

@[expose] public section

noncomputable section

namespace Cert.Proof.Norm

open Idealize.ShloMosaic
open scoped BigOperators

/-- The least length a row is divided by: the binary32 value nearest `10⁻¹²`. -/
def least : ℝ := 2305843 / 2305843009213693952

/-- The least length is positive. -/
theorem least_pos : 0 < least := by unfold least; norm_num

/-- The reference's literal `10⁻¹²` is the least length. -/
theorem ofBits_least : Ideal.ofBits .f32 0x2B8CBCCC#32 = (least : EReal) := by
  simp [Ideal.ofBits, Ideal.ieee, -EReal.coe_mul, least]; norm_num

/-- The named constant is the square of the least length. -/
theorem least_sq : (5316911940649 / 5316911983139663491615228241121378304 : ℝ) = least * least := by
  unfold least; norm_num

/-- The sum of a row's squares. -/
def squares (v : Fin 1024 → EReal) : EReal := ∑ d, v d * v d

/-- What a row is divided by: its Euclidean length, or the least length if that is greater. -/
def length (v : Fin 1024 → EReal) : EReal := max (Ideal.sqrt (squares v)) (least : EReal)

/-- The row divided by its length. -/
def unit (v : Fin 1024 → EReal) : Fin 1024 → EReal := fun d => v d * (length v)⁻¹

/-- The dot product of two rows. -/
def dot (u v : Fin 1024 → EReal) : EReal := ∑ d, u d * v d

/-- A square is not negative. -/
theorem mul_self_nonneg' (a : EReal) : 0 ≤ a * a := by
  rcases le_total 0 a with h | h
  · exact mul_nonneg h h
  · have : a * a = (-a) * (-a) := by rw [neg_mul_neg]
    rw [this]
    have h' : 0 ≤ -a := by rw [EReal.le_neg]; simpa using h
    exact mul_nonneg h' h'

/-- Nor is a sum of squares. -/
theorem squares_nonneg (v : Fin 1024 → EReal) : 0 ≤ squares v := Finset.sum_nonneg fun _ _ => mul_self_nonneg' _

/-- A length is positive. -/
theorem length_pos (v : Fin 1024 → EReal) : 0 < length v :=
  lt_of_lt_of_le (by exact_mod_cast least_pos) (le_max_right _ _)

/-- Division by a length is multiplication by its inverse. -/
theorem div_length (a : EReal) (v : Fin 1024 → EReal) : Ideal.div a (length v) = a * (length v)⁻¹ := by
  unfold Ideal.div; rw [if_neg (length_pos v).ne']

/-- The reciprocal square root of a sum that is not negative, floored at the least length's square, is the reciprocal of
    its root floored at the least length. -/
theorem rsqrt_max {S : EReal} (hS : 0 ≤ S) :
    Ideal.rsqrt (max S ((least * least : ℝ) : EReal)) = (max (Ideal.sqrt S) (least : EReal))⁻¹ := by
  have hl := least_pos
  have hll : 0 < least * least := mul_pos hl hl
  induction S with
  | bot => simp at hS
  | top => simp
  | coe r =>
    have hr : 0 ≤ r := by exact_mod_cast hS
    have hmax : max (r : EReal) ((least * least : ℝ) : EReal) = ((max r (least * least) : ℝ) : EReal) :=
      (EReal.coe_strictMono.monotone.map_max).symm
    have hpos : 0 < max r (least * least) := lt_of_lt_of_le hll (le_max_right _ _)
    rw [hmax, Ideal.rsqrt_coe, if_neg (not_lt.mpr hpos.le), if_neg hpos.ne', Ideal.sqrt_coe, if_neg (not_lt.mpr hr),
      ← EReal.coe_strictMono.monotone.map_max, EReal.coe_inv]
    congr 2
    rw [Real.sqrt_monotone.map_max, Real.sqrt_mul_self hl.le]

/-- So a row times the reciprocal square root of its floored sum of squares is the row divided by its length. -/
theorem mul_rsqrt (v : Fin 1024 → EReal) (d : Fin 1024) :
    v d * Ideal.rsqrt (max (squares v) ((least * least : ℝ) : EReal)) = unit v d := by
  rw [rsqrt_max (squares_nonneg v)]; rfl

/-- A factor that is not negative and not infinite may be taken out of a sum. -/
theorem sum_mul_of_finite {n : ℕ} (f : Fin n → EReal) {c : EReal} (h0 : 0 ≤ c) (ht : c ≠ ⊤) :
    (∑ i, f i * c) = (∑ i, f i) * c := by
  classical
  induction (Finset.univ : Finset (Fin n)) using Finset.induction_on with
  | empty => simp
  | insert a s ha ih =>
    rw [Finset.sum_insert ha, Finset.sum_insert ha, ih, mul_comm _ c, mul_comm _ c, mul_comm _ c,
      EReal.left_distrib_of_nonneg_of_ne_top h0 ht]

/-- The dot product with a normalised first row is the dot product the other way round, divided by the row's length, when
    that length is finite. -/
theorem dot_unit {x : Fin 1024 → EReal} (hx : length x ≠ ⊤) (k : Fin 1024 → EReal) :
    dot (unit x) k = dot k x * (length x)⁻¹ := by
  unfold dot
  rw [← sum_mul_of_finite _ (EReal.inv_nonneg_of_nonneg (length_pos x).le)]
  · refine Finset.sum_congr rfl fun d _ => ?_
    unfold unit
    rw [mul_right_comm, mul_comm (x d)]
  · have hp := length_pos x
    generalize length x = r at hx hp
    induction r with
    | bot => simp
    | top => exact absurd rfl hx
    | coe r => rw [← EReal.coe_inv]; exact EReal.coe_ne_top _

/-- If the length is infinite, the normalised row is zero, and so is every dot product with it. -/
theorem dot_unit_top {x : Fin 1024 → EReal} (hx : length x = ⊤) (k : Fin 1024 → EReal) : dot (unit x) k = 0 := by
  unfold dot unit
  rw [hx]
  simp

/-- Division by a finite length keeps strict order. -/
theorem strictMono_div {x : Fin 1024 → EReal} (hx : length x ≠ ⊤) : StrictMono fun a : EReal => a * (length x)⁻¹ := by
  have hp := length_pos x
  generalize length x = r at hx hp
  induction r with
  | bot => simp at hp
  | top => exact absurd rfl hx
  | coe r =>
    have hr : 0 < r := by exact_mod_cast hp
    intro a b hab
    have h := EReal.strictMono_div_right_of_pos (b := (r : EReal)) (by exact_mod_cast hr) (EReal.coe_ne_top r) hab
    simpa [EReal.div_eq_inv_mul, mul_comm] using h

end Cert.Proof.Norm

end
-- ==== Proof.Select.lean ====
/- Finding the eighth greatest of 64 extended reals by removing the greatest seven times, and adding up the entries that
   reach it. Nothing here speaks of a program. -/
module

public import Mathlib.Data.EReal.Operations
public import Mathlib.Algebra.BigOperators.Fin

@[expose] public section

noncomputable section

namespace Cert.Proof.Select

open scoped BigOperators

/-- The greatest entry of a column of 64. -/
def top (f : Fin 64 → EReal) : EReal := Finset.univ.sup f

/-- One round of removal: an entry below the greatest stays, the greatest (and whatever equals it) becomes `⊥`. -/
def lower (f : Fin 64 → EReal) : Fin 64 → EReal := fun j => if f j < top f then f j else ⊥

/-- The threshold: the greatest entry left after seven rounds. -/
def threshold (f : Fin 64 → EReal) : EReal := top (lower^[7] f)

/-- `σ` lists the positions of `f` from the greatest entry down, and the first nine entries listed are distinct. -/
structure Ranks (σ : Fin 64 → Fin 64) (f : Fin 64 → EReal) : Prop where
  /-- Every position is listed once. -/
  bij : Function.Bijective σ
  /-- The entries come in order. -/
  anti : ∀ i j : Fin 64, i ≤ j → f (σ j) ≤ f (σ i)
  /-- Each of the first nine is below the one before it. -/
  strict : ∀ i j : Fin 64, i < j → i.val < 8 → f (σ j) < f (σ i)

/-- Scaling a column by a strictly monotone map keeps its ranking. -/
theorem Ranks.comp {σ : Fin 64 → Fin 64} {f : Fin 64 → EReal} (h : Ranks σ f) {g : EReal → EReal} (hg : StrictMono g) :
    Ranks σ (fun j => g (f j)) :=
  ⟨h.bij, fun i j hij => hg.monotone (h.anti i j hij), fun i j hij hi => hg (h.strict i j hij hi)⟩

/-- A ranking of a strictly monotone image is a ranking. -/
theorem Ranks.of_comp {σ : Fin 64 → Fin 64} {f : Fin 64 → EReal} {g : EReal → EReal} (hg : StrictMono g)
    (h : Ranks σ (fun j => g (f j))) : Ranks σ f :=
  ⟨h.bij, fun i j hij => hg.le_iff_le.mp (h.anti i j hij), fun i j hij hi => hg.lt_iff_lt.mp (h.strict i j hij hi)⟩

/-- If the first `k` listed positions hold `⊥` and the others their own entries, the greatest is the entry listed `k`-th
    (counted from zero). -/
theorem top_eq {σ : Fin 64 → Fin 64} {f : Fin 64 → EReal} (h : Ranks σ f) (k : Fin 64) {u : Fin 64 → EReal}
    (hu : ∀ i, u (σ i) = if i < k then ⊥ else f (σ i)) : top u = f (σ k) := by
  apply le_antisymm
  · refine Finset.sup_le fun j _ => ?_
    obtain ⟨i, rfl⟩ := h.bij.surjective j
    rw [hu]
    split
    · exact bot_le
    · exact h.anti k i (by omega)
  · have : u (σ k) = f (σ k) := by rw [hu, if_neg (lt_irrefl k)]
    rw [← this]
    exact Finset.le_sup (f := u) (Finset.mem_univ _)

/-- After `k` rounds, `k` at most eight, the first `k` listed positions hold `⊥` and the others their own entries. -/
theorem rounds {σ : Fin 64 → Fin 64} {f : Fin 64 → EReal} (h : Ranks σ f) :
    ∀ k : ℕ, k ≤ 8 → ∀ i : Fin 64, lower^[k] f (σ i) = if i.val < k then ⊥ else f (σ i)
  | 0, _, i => by simp
  | k + 1, hk, i => by
    have ih := rounds h k (by omega)
    have ht : top (lower^[k] f) = f (σ ⟨k, by omega⟩) := top_eq h ⟨k, by omega⟩ fun i => by rw [ih i]; rfl
    rw [Function.iterate_succ_apply', lower, ht, ih]
    rcases lt_trichotomy i.val k with hi | hi | hi
    · rw [if_pos hi, if_pos (by omega : i.val < k + 1)]; split <;> rfl
    · have e : i = ⟨k, by omega⟩ := Fin.ext hi
      rw [if_neg (by omega : ¬i.val < k), e, if_neg (lt_irrefl _), if_pos (by simp)]
    · rw [if_neg (by omega : ¬i.val < k), if_neg (by omega : ¬i.val < k + 1),
        if_pos (h.strict ⟨k, by omega⟩ i (Fin.mk_lt_of_lt_val hi) (by simp; omega))]

/-- The threshold is the entry listed eighth. -/
theorem threshold_eq {σ : Fin 64 → Fin 64} {f : Fin 64 → EReal} (h : Ranks σ f) : threshold f = f (σ 7) :=
  top_eq h 7 fun i => rounds h 7 (by omega) i

/-- The entries that reach the threshold are the first eight listed. -/
theorem reaches_iff {σ : Fin 64 → Fin 64} {f : Fin 64 → EReal} (h : Ranks σ f) (i : Fin 64) :
    threshold f ≤ f (σ i) ↔ i.val < 8 := by
  rw [threshold_eq h]
  constructor
  · intro hle
    by_contra hi
    exact absurd (h.strict 7 i (by rw [Fin.lt_def]; simp; omega) (by simp)) (not_lt.mpr hle)
  · intro hi
    exact h.anti i 7 (by rw [Fin.le_def]; simp; omega)

/-- Adding `g` over the positions whose entry reaches the threshold is adding it over the first eight listed. -/
theorem sum_reaching {σ : Fin 64 → Fin 64} {f : Fin 64 → EReal} (h : Ranks σ f) (g : Fin 64 → EReal) :
    (∑ j, (if threshold f ≤ f j then (1 : EReal) else 0) * g j) = ∑ a : Fin 8, g (σ (a.castLE (by omega))) := by
  rw [← (Equiv.ofBijective σ h.bij).sum_comp]
  simp only [Equiv.ofBijective_apply, reaches_iff h]
  rw [Fin.sum_univ_add (a := 8) (b := 56)]
  have hz : (∑ i : Fin 56, (if (Fin.natAdd 8 i).val < 8 then (1 : EReal) else 0) * g (σ (Fin.natAdd 8 i))) = 0 :=
    Finset.sum_eq_zero fun i _ => by rw [if_neg (by simp), zero_mul]
  rw [hz, add_zero]
  refine Finset.sum_congr rfl fun a _ => ?_
  rw [if_pos (by simp), one_mul]
  rfl

end Cert.Proof.Select

end
-- ==== Proof.KernelBlock.lean ====
/- What one grid point of the kernel computes from the blocks it reads, entry by entry: the normalised keys, the scaled mean
   prompts, the similarities, the column after each round of removal, and the block that is stored. -/
module

public import proofs.«01_k».proof.Proof.Norm
public import proofs.«01_k».proof.Proof.Select
public import proofs.«01_k».proof.Proof.Gen.KernelIdeal.Skeleton
public import Idealize.ShloMosaic.Lib.ValueIdx
public import Idealize.ShloMosaic.Lib.Pipeline.Value
public import Idealize.ShloMosaic.PureOps.IdealRules

@[expose] public section

noncomputable section

namespace Cert.Proof.KernelBlock

open Idealize.ShloMosaic Idealize.ShloMosaic.ValueIdx Cert.KernelIdeal Cert.KernelIdeal.Gen
open Cert.Proof.Norm Cert.Proof.Select
open scoped BigOperators

/-- Row `j` of a two-axis array with rows of 1024 entries. -/
def row {n : ℕ} (a : (⟨2, ![n, 1024]⟩ : Shape).Idx → EReal) (j : Fin n) : Fin 1024 → EReal := fun d => a (ix2 j d)

/-- The named constant is the square of the least length. -/
theorem named_eq : (Named.named κ "norm_min_sq" 0x179ABE15#32 : Ideal .f32) = ((least * least : ℝ) : EReal) := by
  rw [IdealRules.named_const.ideal_named_scalar κ "norm_min_sq" (φ := .f32) 0x179ABE15#32
    ((5316911940649 / 5316911983139663491615228241121378304 : ℝ) : EReal) rfl, least_sq]

/-- Putting coordinate `e` back on the reduced axis of a key's row. -/
theorem lift_key (j : Fin 64) (e : Fin 1024) : reduces_S64x1024_S64.lift (ix1 j) e = ix2 j e := by
  funext a; match a with | ⟨0, _⟩ => rfl | ⟨1, _⟩ => rfl

/-- Putting coordinate `l` back on the reduced axis of the prompts. -/
theorem lift_prompt (j : Fin 64) (d : Fin 1024) (l : Fin 8) :
    reduces_S64x8x1024_S64x1024.lift (ix2 j d) l = ix3 j l d := by
  funext a; match a with | ⟨0, _⟩ => rfl | ⟨1, _⟩ => rfl | ⟨2, _⟩ => rfl

/-- Putting coordinate `j` back on the reduced axis of a column. -/
theorem lift_col (b : Fin 2048) (j : Fin 64) : reduces_S64x2048_S2048.lift (ix1 b) j = ix2 j b := by
  funext a; match a with | ⟨0, _⟩ => rfl | ⟨1, _⟩ => rfl

/-- The first carried array holds each key divided by its length. -/
theorem keys_apply (a : Vec Ideal S64x1024 .f32) (j : Fin 64) (d : Fin 1024) :
    k0_pay2 a (ix2 j d) = unit (row a j) d := by
  rw [← mul_rsqrt]
  unfold k0_pay2
  dsimp only
  rw [shapeCast_self, mulf_apply]
  refine congrArg (a (ix2 j d) * ·) ?_
  rw [broadcastTo_apply _ _ _ (ix2 j 0) (fun a => by fin_cases a <;> rfl)]
  show Ideal.rsqrt (max (shapeCast S64x1 _ _ (ix2 j 0)) (Named.named κ "norm_min_sq" 0x179ABE15#32 : Ideal .f32)) = _
  rw [named_eq, shapeCast_apply _ _ _ (ix1 j) (by simp [Shape.rowMajor_val_one, Shape.rowMajor_val_two])]
  exact congrArg (fun s : EReal => Ideal.rsqrt (max s ((least * least : ℝ) : EReal)))
    ((Ideal.multiReduction_add_single (mulf a a) 0x00000000#32 reduces_S64x1024_S64 (.inl rfl) rfl (ix1 j)).trans
      (Finset.sum_congr rfl fun e _ => (congrArg (mulf (F := Ideal) (φ := .f32) a a) (lift_key j e)).trans rfl))

/-- A prompt's mean over its eight rows. -/
def mean (p : (⟨3, ![64, 8, 1024]⟩ : Shape).Idx → EReal) (j : Fin 64) (d : Fin 1024) : EReal :=
  (∑ l : Fin 8, p (ix3 j l d)) * ((1 / 8 : ℝ) : EReal)

/-- The word of eight. -/
theorem ofBits_eight : Ideal.ofBits .f32 0x41000000#32 = ((8 : ℝ) : EReal) := by
  simp [Ideal.ofBits, Ideal.ieee, -EReal.coe_mul]; norm_num

/-- The word of one eighth. -/
theorem ofBits_eighth : Ideal.ofBits .f32 0x3E000000#32 = ((1 / 8 : ℝ) : EReal) := by
  simp [Ideal.ofBits, Ideal.ieee, -EReal.coe_mul]; norm_num

/-- The second carried array holds an eighth of each prompt's mean. -/
theorem means_apply (p : Vec Ideal S64x8x1024 .f32) (j : Fin 64) (d : Fin 1024) :
    k0_pay3 p (ix2 j d) = mean p j d * ((1 / 8 : ℝ) : EReal) := by
  unfold k0_pay3
  dsimp only
  rw [shapeCast_self, truncf_apply, mulf_apply, divf_apply, broadcast_apply, broadcast_apply]
  refine (congrArg₂ (fun a b : EReal => Ideal.div _ a * b) ofBits_eight ofBits_eighth).trans ?_
  rw [Ideal.div_coe (by norm_num)]
  exact congrArg (fun s : EReal => s * ((1 / 8 : ℝ) : EReal) * ((1 / 8 : ℝ) : EReal))
    ((Ideal.multiReduction_add_single p 0x00000000#32 reduces_S64x8x1024_S64x1024 (.inl rfl) rfl (ix2 j d)).trans
      (Finset.sum_congr rfl fun l _ => congrArg p (lift_prompt j d l)))

/-- The similarity of key `j` and row `b` of the block is their dot product. -/
theorem similarity_apply (x : Vec Ideal S2048x1024 .f32) (k : Vec Ideal S64x1024 .f32) (j : Fin 64) (b : Fin 2048) :
    k0_pay4 x k (ix2 j b) = dot (row k j) (row x b) := by
  unfold k0_pay4
  simp only [matmul]
  rw [Ideal.matmul_constant_zero_apply,
    ← Equiv.sum_comp (contrEquiv1 dot_S64x1024_S2048x1024_S64x2048_1_1_0_0_n_n 1024 rfl rfl).symm]
  refine Finset.sum_congr rfl fun d _ => ?_
  refine congrArg₂ (· * ·) (congrArg k ?_) (congrArg x ?_)
  · funext a; match a with | ⟨0, _⟩ => rfl | ⟨1, _⟩ => rfl
  · funext a; match a with | ⟨0, _⟩ => rfl | ⟨1, _⟩ => rfl

/-- Column `b` of a 64-row array. -/
def col (f : FVec Ideal S64x2048 .f32) (b : Fin 2048) : Fin 64 → EReal := fun j => f (ix2 j b)

/-- The word of minus infinity is `⊥`. -/
theorem ofBits_bot : Ideal.ofBits .f32 0xFF800000#32 = (⊥ : EReal) := by
  simp [Ideal.ofBits, Ideal.ieee]

/-- Every column's greatest entry, spread over the column again. -/
def spread (f : FVec Ideal S64x2048 .f32) : FVec Ideal S64x2048 .f32 :=
  broadcastTo S64x2048 (shapeCast S1x2048
    (multiReduction .maximumf [0] S2048 f 0xFF800000#32 reduces_S64x2048_S2048 (.inl rfl) rfl) shapeCasts_S2048_S1x2048)
    broadcasts_S1x2048_S64x2048

/-- Entry by entry, it is the greatest of the column. -/
theorem spread_apply (f : FVec Ideal S64x2048 .f32) (j : Fin 64) (b : Fin 2048) : spread f (ix2 j b) = top (col f b) := by
  unfold spread
  rw [broadcastTo_apply _ _ _ (ix2 0 b) (fun a => by fin_cases a <;> rfl),
    shapeCast_apply _ _ _ (ix1 b) (by simp [Shape.rowMajor_val_one, Shape.rowMajor_val_two])]
  refine (Ideal.multiReduction_maximumf_single f _ reduces_S64x2048_S2048 (.inl rfl) rfl (ix1 b)).trans ?_
  refine (congrArg (fun s : EReal => Finset.fold max s _ _) ofBits_bot).trans ?_
  have h : f ∘ reduces_S64x2048_S2048.lift (ix1 b) = col f b := funext fun j => congrArg f (lift_col b j)
  exact congrArg (fun g : Fin 64 → EReal => Finset.fold max ⊥ g Finset.univ) h

/-- One round of removal on every column. -/
def round (f : FVec Ideal S64x2048 .f32) : FVec Ideal S64x2048 .f32 :=
  select (cmpf .olt f (spread f)) f (broadcast S64x2048 (Scalar.ofBits .f32 0xFF800000#32))

/-- Column by column, it is the round of removal. -/
theorem col_round (f : FVec Ideal S64x2048 .f32) (b : Fin 2048) : col (round f) b = lower (col f b) := by
  funext j
  unfold col round
  rw [select_apply, cmpf_apply, broadcast_apply, spread_apply, Ideal.cmpf_def,
    show (Scalar.ofBits .f32 0xFF800000#32 : Ideal .f32) = (⊥ : EReal) from ofBits_bot]
  change _ = lower (col f b) j
  unfold lower
  by_cases h : col f b j < top (col f b)
  · rw [if_pos h]
    have : Ideal.cmp .olt (f (ix2 j b)) (top (col f b)) = 1#1 := by
      simp only [Ideal.cmp]; rw [decide_eq_true (show f (ix2 j b) < _ from h)]; rfl
    rw [this, select_one]; rfl
  · rw [if_neg h]
    have : Ideal.cmp .olt (f (ix2 j b)) (top (col f b)) = 0#1 := by
      simp only [Ideal.cmp]; rw [decide_eq_false (show ¬f (ix2 j b) < _ from h)]; rfl
    rw [this, select_zero]

/-- The array after five rounds. -/
theorem five_rounds (x : Vec Ideal S2048x1024 .f32) (k : Vec Ideal S64x1024 .f32) :
    k0_pay5 x k = round (round (round (round (round (k0_pay4 x k))))) := rfl

/-- The mask of the sixth round. -/
theorem sixth_mask (x : Vec Ideal S2048x1024 .f32) (k : Vec Ideal S64x1024 .f32) :
    k0_pay6 x k = cmpf .olt (k0_pay5 x k) (spread (k0_pay5 x k)) := rfl

/-- The 0/1 array of the entries that reach their column's threshold. -/
def chosen (s t : FVec Ideal S64x2048 .f32) : FVec Ideal S64x2048 .bf16 :=
  truncf .bf16 (sitofp .f32 (extui 32 (cmpf .oge s t) natLt_1_32)) bitsLt_bf16_f32

/-- Entry by entry. -/
theorem chosen_apply (s t : FVec Ideal S64x2048 .f32) (i : S64x2048.Idx) :
    chosen s t i = if t i ≤ s i then (1 : EReal) else 0 := by
  show (((BitVec.setWidth 32 (Ideal.cmp .oge (s i) (t i))).toInt : ℝ) : EReal) = _
  by_cases h : t i ≤ s i
  · rw [if_pos h]; simp [Ideal.cmp, h]
  · rw [if_neg h]; simp [Ideal.cmp, h]

/-- The stored block, from the similarities `s` and the array `w` after five rounds: the input block plus the product of
    the chosen entries with the carried mean prompts. -/
theorem stored_eq (x : Vec Ideal S2048x1024 .f32) (s w : FVec Ideal S64x2048 .f32) (p : FVec Ideal S64x1024 .bf16) :
    k0_pay1 x s w (cmpf .olt w (spread w)) p
      = addf x (matmul dot_S64x2048_S64x1024_S2048x1024_0_0_1_1_n_n none
          (chosen s (spread (round (round w)))) p (constant S2048x1024 .f32 0x00000000#32)) := rfl

/-- An entry of the stored block: the input entry plus the carried mean prompts of the keys whose similarity with the row
    reaches the row's threshold. -/
theorem stored_apply (x : Vec Ideal S2048x1024 .f32) (k : Vec Ideal S64x1024 .f32) (p : FVec Ideal S64x1024 .bf16)
    (b : Fin 2048) (d : Fin 1024) :
    k0_pay1 x (k0_pay4 x k) (k0_pay5 x k) (k0_pay6 x k) p (ix2 b d)
      = x (ix2 b d) + ∑ j : Fin 64, (if threshold (fun j => dot (row k j) (row x b)) ≤ dot (row k j) (row x b)
          then (1 : EReal) else 0) * p (ix2 j d) := by
  rw [sixth_mask, stored_eq, addf_apply]
  simp only [matmul]
  rw [Ideal.matmul_constant_zero_apply,
    ← Equiv.sum_comp (contrEquiv1 dot_S64x2048_S64x1024_S2048x1024_0_0_1_1_n_n 64 rfl rfl).symm]
  refine congrArg (x (ix2 b d) + ·) (Finset.sum_congr rfl fun j _ => ?_)
  have hl : DotDims.lhsIdx dot_S64x2048_S64x1024_S2048x1024_0_0_1_1_n_n (ix2 b d)
      ((contrEquiv1 dot_S64x2048_S64x1024_S2048x1024_0_0_1_1_n_n 64 rfl rfl).symm j) = ix2 j b := by
    funext a; match a with | ⟨0, _⟩ => rfl | ⟨1, _⟩ => rfl
  have hr : DotDims.rhsIdx dot_S64x2048_S64x1024_S2048x1024_0_0_1_1_n_n (ix2 b d)
      ((contrEquiv1 dot_S64x2048_S64x1024_S2048x1024_0_0_1_1_n_n 64 rfl rfl).symm j) = ix2 j d := by
    funext a; match a with | ⟨0, _⟩ => rfl | ⟨1, _⟩ => rfl
  have hs : col (k0_pay4 x k) b = fun j => dot (row k j) (row x b) := funext fun j => similarity_apply x k j b
  have ht : spread (round (round (k0_pay5 x k))) (ix2 j b) = threshold fun j => dot (row k j) (row x b) := by
    rw [spread_apply, five_rounds, col_round, col_round, col_round, col_round, col_round, col_round, col_round, hs]
    rfl
  rw [hl, hr, chosen_apply, ht, similarity_apply]

end Cert.Proof.KernelBlock

end
-- ==== Proof.KernelPoint.lean ====
/- What one grid point leaves behind, in terms of the blocks it reads: the first point fills the two carried arrays and stores
   its block from them, every later point keeps them and stores its block from them. -/
module

public import proofs.«01_k».proof.Proof.Gen.KernelIdeal.Frame
public import Idealize.ShloMosaic.Lib.Pipeline.Value
public import Idealize.ShloMosaic.Lib.Tactic

@[expose] public section

noncomputable section

namespace Cert.Proof.KernelPoint

open Cert.KernelIdeal Cert.KernelIdeal.Gen Idealize.ShloMosaic Idealize.ShloMosaic.TcCoe Idealize.SL.Sem

variable {F : FTy → Type} [FloatOps F] [Named F]

/-- The two-axis zero offset. -/
theorem hz2 : (![0, 0] : Fin 2 → Nat) = fun _ => 0 := funext fun a => by fin_cases a <;> rfl

/-- The three-axis zero offset. -/
theorem hz3 : (![0, 0, 0] : Fin 3 → Nat) = fun _ => 0 := funext fun a => by fin_cases a <;> rfl

/-- The block a point stores, from its rows `x` and the carried keys `k` and mean prompts `p`. -/
def stored (x : Vec F S2048x1024 .f32) (k : Vec F S64x1024 .f32) (p : Vec F S64x1024 .bf16) : Vec F S2048x1024 .f32 :=
  k0_pay1 x (k0_pay4 x k) (k0_pay5 x k) (k0_pay6 x k) p

variable (c : Dev nD) (i : grid0.Coords)
  (a1 : Memref sig .tc .vmem S2048x1024 .f32) (h1 : a1.IsWhole) (a2 : Memref sig .tc .vmem S64x8x1024 .f32) (h2 : a2.IsWhole)
  (a3 : Memref sig .tc .vmem S64x1024 .f32) (h3 : a3.IsWhole) (a4 : Memref sig .tc .vmem S2048x1024 .f32) (h4 : a4.IsWhole)
  (a5 : Memref sig .tc .vmem S64x1024 .f32) (h5 : a5.IsWhole) (a6 : Memref sig .tc .vmem S64x1024 .bf16) (h6 : a6.IsWhole)

/-- A later point stores its block from what the carried arrays hold. -/
theorem out_later (hc : ¬cond0_0 i) (x : Vec F S2048x1024 .f32) (q : Vec F S64x8x1024 .f32) (a : Vec F S64x1024 .f32)
    (k : Vec F S64x1024 .f32) (p : Vec F S64x1024 .bf16) :
    out0_B_3 c i a1 h1 a2 h2 a3 h3 a4 h4 a5 h5 a6 h6 hc x q a k p = stored x k p := by
  unfold out0_B_3
  rw [View.read_writes_eq_canon _ _ _ (cover0_B_3 c i a1 h1 a2 h2 a3 h3 a4 h4 a5 h5 a6 h6 hc x q a k p)]
  unfold kernelRun0_B
  dsimp only
  sl_unfold_words
  rw [View.canon_unit_zero hz2]
  simp only [View.readAt_eq_ld, h1.read_unread, h5.read_unread, h6.read_unread,
    View.ld_unit_zero (S := S2048x1024) hz2, View.ld_unit_zero (S := S64x1024) hz2]
  rfl

/-- The first point leaves the normalised keys in the first carried array. -/
theorem keys_first (hc : cond0_0 i) (x : Vec F S2048x1024 .f32) (q : Vec F S64x8x1024 .f32) (a : Vec F S64x1024 .f32) :
    sout0_A_0 c i a1 h1 a2 h2 a3 h3 a4 h4 a5 h5 a6 h6 hc x q a = k0_pay2 a := by
  unfold sout0_A_0
  rw [View.read_writes_eq_canon _ _ _ (scover0_A_0 c i a1 h1 a2 h2 a3 h3 a4 h4 a5 h5 a6 h6 hc x q a)]
  unfold kernelRun0_A
  dsimp only
  sl_unfold_words
  rw [View.canon_unit_zero hz2]
  simp only [View.readAt_eq_ld, h3.read_unread, View.ld_unit_zero (S := S64x1024) hz2]

/-- The first point leaves the scaled mean prompts in the second carried array. -/
theorem means_first (hc : cond0_0 i) (x : Vec F S2048x1024 .f32) (q : Vec F S64x8x1024 .f32) (a : Vec F S64x1024 .f32) :
    sout0_A_1 c i a1 h1 a2 h2 a3 h3 a4 h4 a5 h5 a6 h6 hc x q a = k0_pay3 q := by
  unfold sout0_A_1
  rw [View.read_writes_eq_canon _ _ _ (scover0_A_1 c i a1 h1 a2 h2 a3 h3 a4 h4 a5 h5 a6 h6 hc x q a)]
  unfold kernelRun0_A
  dsimp only
  sl_unfold_words
  rw [View.canon_unit_zero hz2]
  simp only [View.readAt_eq_ld, h2.read_unread, View.ld_unit_zero (S := S64x8x1024) hz3]

/-- The first point stores its block from the two arrays it has just filled. -/
theorem out_first (hc : cond0_0 i) (x : Vec F S2048x1024 .f32) (q : Vec F S64x8x1024 .f32) (a : Vec F S64x1024 .f32) :
    out0_A_3 c i a1 h1 a2 h2 a3 h3 a4 h4 a5 h5 a6 h6 hc x q a = stored x (k0_pay2 a) (k0_pay3 q) := by
  unfold out0_A_3
  rw [View.read_writes_eq_canon _ _ _ (cover0_A_3 c i a1 h1 a2 h2 a3 h3 a4 h4 a5 h5 a6 h6 hc x q a)]
  unfold kernelRun0_A
  dsimp only
  sl_unfold_words
  rw [View.canon_unit_zero hz2]
  simp only [View.readAt_eq_ld, h1.read_unread, h2.read_unread, h3.read_unread, View.ld_unit_zero (S := S2048x1024) hz2, View.ld_unit_zero (S := S64x1024) hz2,
    View.ld_unit_zero (S := S64x8x1024) hz3, View.readCov_unit_zero (S := S64x1024) _ hz2]
  rfl

end Cert.Proof.KernelPoint

end
-- ==== Proof.KernelArray.lean ====
/- The kernel's result array as one function of the argument arrays: its entry at row `b` is the row's entry plus a carried mean
   prompt for every key whose similarity with the row reaches the row's threshold. -/
module

public import proofs.«01_k».proof.Proof.KernelBlock
public import proofs.«01_k».proof.Proof.KernelPoint
public import proofs.«01_k».proof.Proof.Gen.KernelIdeal.Value

@[expose] public section

noncomputable section

namespace Cert.Proof.KernelArray

open Cert.KernelIdeal Cert.KernelIdeal.Gen Cert.KernelIdeal.Value Idealize.ShloMosaic Idealize.ShloMosaic.TcCoe
open Idealize.ShloMosaic.ValueIdx Idealize.SL.Sem
open Cert.Proof.Norm Cert.Proof.Select Cert.Proof.KernelBlock Cert.Proof.KernelPoint
open scoped BigOperators

variable (m : (ℓ : Loc nD τ sig) → Buf (Elt Ideal) ℓ) (c : Dev nD)

/-- The prompts' window stands still. -/
theorem still1 : ∀ t : Fin cfg0.N, ∀ a : Fin 3, win0_1.index t a = 0 := (by decide +kernel : ∀ t : Fin grid0.N, _)

/-- The keys' window stands still. -/
theorem still2 : ∀ t : Fin cfg0.N, ∀ a : Fin 2, win0_2.index t a = 0 := (by decide +kernel : ∀ t : Fin grid0.N, _)

/-- The input's window moves down by one block a point. -/
theorem moves0 : ∀ t : Fin cfg0.N, win0_0.index t (0 : Fin 2) = t.val ∧ win0_0.index t (1 : Fin 2) = 0 :=
  (by decide +kernel : ∀ t : Fin grid0.N, _)

/-- Every point reads all the prompts. -/
theorem prompts_block (t : Fin cfg0.N) : iblk m c 1 t = m ((c : Thread nD τ).loc main_arg1) := by
  funext j
  show V m c main_arg1 (((cfg0.win 1).blk t).view.emb j) = V m c main_arg1 j
  refine congrArg _ (funext fun a => Fin.ext ?_)
  match a with
  | ⟨0, _⟩ => show win0_1.index t (0 : Fin 3) * 64 + 1 * (j 0).val = (j 0).val; rw [still1]; omega
  | ⟨1, _⟩ => show win0_1.index t (1 : Fin 3) * 8 + 1 * (j 1).val = (j 1).val; rw [still1]; omega
  | ⟨2, _⟩ => show win0_1.index t (2 : Fin 3) * 1024 + 1 * (j 2).val = (j 2).val; rw [still1]; omega

/-- Every point reads all the keys. -/
theorem keys_block (t : Fin cfg0.N) : iblk m c 2 t = m ((c : Thread nD τ).loc main_arg2) := by
  funext j
  show V m c main_arg2 (((cfg0.win 2).blk t).view.emb j) = V m c main_arg2 j
  refine congrArg _ (funext fun a => Fin.ext ?_)
  match a with
  | ⟨0, _⟩ => show win0_2.index t (0 : Fin 2) * 64 + 1 * (j 0).val = (j 0).val; rw [still2]; omega
  | ⟨1, _⟩ => show win0_2.index t (1 : Fin 2) * 1024 + 1 * (j 1).val = (j 1).val; rw [still2]; omega

/-- Point `t` reads rows `2048 t` to `2048 t + 2047` of the input. -/
theorem rows_block (t : Fin cfg0.N) (b : Fin 2048) (B : Fin 8192) (hB : B.val = t.val * 2048 + b.val) (d : Fin 1024) :
    (iblk m c 0 t : Vec Ideal S2048x1024 .f32) (ix2 b d) = (m ((c : Thread nD τ).loc main_arg0) : Vec Ideal S8192x1024 .f32) (ix2 B d) := by
  show V m c main_arg0 (((cfg0.win 0).blk t).view.emb (ix2 b d)) = V m c main_arg0 (ix2 B d)
  obtain ⟨e0, e1⟩ := moves0 t
  refine congrArg _ (funext fun a => Fin.ext ?_)
  match a with
  | ⟨0, _⟩ => show win0_0.index t (0 : Fin 2) * 2048 + 1 * b.val = B.val; rw [e0, hB]; omega
  | ⟨1, _⟩ => show win0_0.index t (1 : Fin 2) * 1024 + 1 * d.val = d.val; rw [e1]; omega

/-- After every point the carried arrays hold the normalised keys and the scaled mean prompts. -/
theorem carried : ∀ (n : ℕ) (h : n < cfg0.N), (outsAt0 m c n h).2
    = (k0_pay2 (m ((c : Thread nD τ).loc main_arg2)), k0_pay3 (m ((c : Thread nD τ).loc main_arg1)))
  | 0, h => by
    rw [outsAt0_A m c ⟨0, h⟩ rfl]
    dsimp only
    rw [keys_first, means_first, keys_block, prompts_block]
  | n + 1, h => by
    have hN : cfg0.N = 4 := N_0
    have hB : ¬(⟨n + 1, h⟩ : Fin cfg0.N).val % 4 = 0 := by dsimp only; omega
    rw [outsAt0_B m c ⟨n + 1, h⟩ hB]
    exact carried n (Nat.lt_of_succ_lt h)

/-- The block point `n` stores. -/
theorem block_eq (n : ℕ) (h : n < cfg0.N) : (outsAt0 m c n h).1
    = stored (iblk m c 0 ⟨n, h⟩) (k0_pay2 (m ((c : Thread nD τ).loc main_arg2))) (k0_pay3 (m ((c : Thread nD τ).loc main_arg1))) := by
  by_cases h0 : (⟨n, h⟩ : Fin cfg0.N).val % 4 = 0
  · rw [outsAt0_A m c ⟨n, h⟩ h0]
    dsimp only
    rw [out_first, keys_block, prompts_block]
  · rw [outsAt0_B m c ⟨n, h⟩ h0]
    dsimp only
    rw [out_later, carried]

/-- The value at row `B`, column `d`, of the argument arrays `x`, `p` and `k`. -/
def value (x : FVec Ideal S8192x1024 .f32) (p : FVec Ideal S64x8x1024 .f32) (k : FVec Ideal S64x1024 .f32)
    (B : Fin 8192) (d : Fin 1024) : EReal :=
  x (ix2 B d) + ∑ j : Fin 64, (if threshold (fun j => dot (unit (row k j)) (row x B)) ≤ dot (unit (row k j)) (row x B)
    then (1 : EReal) else 0) * (mean p j d * ((1 / 8 : ℝ) : EReal))

/-- An entry of the result array is that value. -/
theorem result_apply (B : Fin 8192) (d : Fin 1024) :
    (G3 m c : Vec Ideal S8192x1024 .f32) (ix2 B d) = value (m ((c : Thread nD τ).loc main_arg0))
      (m ((c : Thread nD τ).loc main_arg1)) (m ((c : Thread nD τ).loc main_arg2)) B d := by
  have hN : cfg0.N = 4 := N_0
  have hp : pt3Of (ix2 B d) = B.val / 2048 := by
    show 1 * (B.val / 2048 - 0) + 1 * (d.val / 1024 - 0) = _
    omega
  have hlt : pt3Of (ix2 B d) < cfg0.N := by rw [hp]; omega
  have hloc : loc3Of (ix2 B d) = ix2 ⟨B.val % 2048, Nat.mod_lt _ (by decide)⟩ d := by
    funext a; apply Fin.ext
    match a with
    | ⟨0, _⟩ => rfl
    | ⟨1, _⟩ => show d.val % 1024 = d.val; omega
  unfold G3
  rw [dif_pos hlt, ← outsAt0_sweep m c _ hlt, block_eq, hloc]
  unfold stored
  rw [stored_apply]
  have hrow : ∀ e : Fin 1024, (iblk m c 0 ⟨pt3Of (ix2 B d), hlt⟩ : Vec Ideal S2048x1024 .f32) (ix2 ⟨B.val % 2048, Nat.mod_lt _ (by decide)⟩ e)
      = (m ((c : Thread nD τ).loc main_arg0) : Vec Ideal S8192x1024 .f32) (ix2 B e) := fun e =>
    rows_block m c _ _ B (by show B.val = pt3Of (ix2 B d) * 2048 + B.val % 2048; rw [hp]; omega) e
  have hx : row (iblk m c 0 ⟨pt3Of (ix2 B d), hlt⟩ : Vec Ideal S2048x1024 .f32) ⟨B.val % 2048, Nat.mod_lt _ (by decide)⟩
      = row (m ((c : Thread nD τ).loc main_arg0) : Vec Ideal S8192x1024 .f32) B := funext hrow
  have hk : ∀ j, row (k0_pay2 (m ((c : Thread nD τ).loc main_arg2)) : Vec Ideal S64x1024 .f32) j
      = unit (row (m ((c : Thread nD τ).loc main_arg2) : Vec Ideal S64x1024 .f32) j) := fun j => funext fun e => keys_apply _ j e
  simp only [hx, hk, hrow, means_apply]
  rfl

end Cert.Proof.KernelArray

end
-- ==== Proof.Rank.lean ====
/- The k greatest entries of every row of an 8192 × 64 array, as the host operation orders them: the entries and their positions
   through one order of the row, which runs from greatest to least. -/
module

public import Idealize.ShloMosaic.PureOps.Ideal.Laws
public import Idealize.ShloMosaic.Lib.IdealHost
public import Idealize.ShloMosaic.Lib.SortFacts
public import Idealize.ShloMosaic.Lib.Pipeline.Value

@[expose] public section

noncomputable section

namespace Cert.Proof.Rank

open Idealize.ShloMosaic Idealize.ShloMosaic.ValueIdx

/-- The positions of a row of 64, those of greater entries first and those of equal entries in their own order. -/
def order (f : Fin 64 → EReal) : Fin 64 → Fin 64 := sortedFrom fun a b => decide (f b < f a)

/-- Every position occurs once. -/
theorem order_bijective (f : Fin 64 → EReal) : Function.Bijective (order f) :=
  ⟨sortedFrom_injective _, sortedFrom_surjective _⟩

/-- The entries never rise along the order. -/
theorem order_anti (f : Fin 64 → EReal) (i j : Fin 64) (h : i ≤ j) : f (order f j) ≤ f (order f i) := by
  rcases h.lt_or_eq with h | rfl
  · have := sortedFrom_noInversion (fun a b => decide (f b < f a)) (fun a b => decide (f b < f a))
      (fun a b h => by simpa using le_of_lt (by simpa using h)) (fun _ _ h => h)
      (fun a b c h₁ h₂ => by
        simp only [decide_eq_false_iff_not, not_lt] at h₁ h₂ ⊢
        exact h₁.trans h₂) i j h
    exact not_lt.1 (of_decide_eq_false this)
  · exact le_rfl

variable {n : ℕ} (x : FVec Ideal ⟨2, ![8192, 64]⟩ .f32) (h : (⟨2, ![8192, 64]⟩ : Shape).Slices (fun _ => 0) ⟨2, ![8192, n]⟩) (hn : n ≤ 64)

/-- Row `b` with its second coordinate replaced. -/
theorem along_apply (b : Fin 8192) (a k : Fin 64) :
    Shape.Idx.along (s := ⟨2, ![8192, 64]⟩) (ix2 b a) ⟨1, Nat.one_lt_two⟩ k = ix2 b k := by
  funext e; match e with | ⟨0, _⟩ => rfl | ⟨1, _⟩ => rfl

/-- The permutation by which row `b` is sorted. -/
theorem order_eq (b : Fin 8192) (a : Fin 64) :
    (fun k k' : Fin 64 => FloatOps.cmpfTotal (F := Ideal) (φ := .f32) .gt
      (x (Shape.Idx.along (s := ⟨2, ![8192, 64]⟩) (ix2 b a) ⟨1, Nat.one_lt_two⟩ k))
      (x (Shape.Idx.along (s := ⟨2, ![8192, 64]⟩) (ix2 b a) ⟨1, Nat.one_lt_two⟩ k')) == 1#1)
      = fun k k' => decide (x (ix2 b k') < x (ix2 b k)) := by
  funext k k'
  rw [along_apply, along_apply, Ideal.cmpfTotal_def]
  show (BitVec.ofBool (decide (x (ix2 b k') < x (ix2 b k))) == 1#1) = _
  cases decide (x (ix2 b k') < x (ix2 b k)) <;> rfl

/-- Entry `a` of row `b` of the greatest entries. -/
theorem values_apply (b : Fin 8192) (a : Fin n) :
    (Host.topK ⟨2, ![8192, n]⟩ 1 (FloatOps.cmpfTotal (F := Ideal) (φ := .f32) .gt) x h).1 (ix2 b a)
      = x (ix2 b (order (fun k => x (ix2 b k)) (a.castLE hn))) := by
  unfold Host.topK
  dsimp only
  rw [extractStridedSlice_apply _ _ _ _ (ix2 b (a.castLE hn)) (fun e => by fin_cases e <;> simp)]
  unfold Host.sort2
  rw [dif_pos Nat.one_lt_two]
  dsimp only
  erw [order_eq]
  exact congrArg x (along_apply _ _ _)

/-- Its position in the row, as a word. -/
theorem indices_apply (b : Fin 8192) (a : Fin n) :
    (Host.topK ⟨2, ![8192, n]⟩ 1 (FloatOps.cmpfTotal (F := Ideal) (φ := .f32) .gt) x h).2 (ix2 b a)
      = BitVec.ofNat 32 (order (fun k => x (ix2 b k)) (a.castLE hn)).val := by
  unfold Host.topK
  dsimp only
  rw [extractStridedSlice_apply _ _ _ _ (ix2 b (a.castLE hn)) (fun e => by fin_cases e <;> simp)]
  unfold Host.sort2
  rw [dif_pos Nat.one_lt_two]
  dsimp only
  erw [order_eq]
  refine (dif_pos Nat.one_lt_two).trans ?_
  exact (congrArg (iotaInDim ⟨2, ![8192, 64]⟩ 32 ⟨1, Nat.one_lt_two⟩) (along_apply b (a.castLE hn) (order (fun k => x (ix2 b k)) (a.castLE hn)))).trans
    (iotaInDim_apply _ _ _)

end Cert.Proof.Rank

end
-- ==== Proof.Similarity.lean ====
/- The similarities the reference ranks: every row of an array divided by its length, and the dot products of the normalised
   rows with the normalised keys. The shapes' side conditions are arguments, so that the reference and the precondition
   both read these definitions. -/
module

public import proofs.«01_k».proof.Proof.KernelBlock
public import Idealize.ShloMosaic.Lib.IdealHost

@[expose] public section

noncomputable section

namespace Cert.Proof.Similarity

open Idealize.ShloMosaic Idealize.ShloMosaic.ValueIdx
open Cert.Proof.Norm Cert.Proof.KernelBlock
open scoped BigOperators

section Rows

variable {n : ℕ} (hr : (⟨2, ![n, 1024]⟩ : Shape).ReducesTo [1] ⟨1, ![n]⟩) (hu : 0 < (⟨0, ![]⟩ : Shape).numel)
  (h1 : (⟨1, ![n]⟩ : Shape).BroadcastsInDim ⟨2, ![n, 1]⟩ ![0]) (h0 : (⟨0, ![]⟩ : Shape).BroadcastsInDim ⟨2, ![n, 1]⟩ ![])
  (h2 : (⟨2, ![n, 1]⟩ : Shape).BroadcastsInDim ⟨2, ![n, 1024]⟩ ![0, 1])

/-- Every row of `x` divided by its length. -/
def normalised (x : FVec Ideal ⟨2, ![n, 1024]⟩ .f32) : FVec Ideal ⟨2, ![n, 1024]⟩ .f32 :=
  Host.divf x (broadcastInDim ⟨2, ![n, 1024]⟩ ![0, 1] h2
    (maximumf (Host.sqrt (broadcastInDim ⟨2, ![n, 1]⟩ ![0] h1
      (Host.reduceAdd (mulf x x) (constant (F := Ideal) ⟨0, ![]⟩ .f32 0x00000000#32) hr hu)))
      (broadcastInDim ⟨2, ![n, 1]⟩ ![] h0 (constant ⟨0, ![]⟩ .f32 0x2B8CBCCC#32))))

/-- Its entries are those of the rows' unit vectors. -/
theorem normalised_apply (h : (⟨2, ![n, 1024]⟩ : Shape).Reduces [1] ⟨1, ![n]⟩) (hn : n ≠ 1)
    (x : FVec Ideal ⟨2, ![n, 1024]⟩ .f32) (b : Fin n) (d : Fin 1024) :
    normalised hr hu h1 h0 h2 x (ix2 b d) = unit (row x b) d := by
  have hl : ∀ e : Fin 1024, h.lift (ix1 b) e = ix2 b e := fun e => by
    funext a; match a with | ⟨0, _⟩ => rfl | ⟨1, _⟩ => rfl
  have hs : Host.reduceAdd (mulf x x) (constant (F := Ideal) ⟨0, ![]⟩ .f32 0x00000000#32) hr hu (ix1 b) = squares (row x b) := by
    rw [hostReduceAdd_apply]
    refine (Ideal.hostReduceAdd_single hr h _ _ _).trans ?_
    refine (congrArg (· + _) Ideal.ofBits_zero_f32).trans ((zero_add _).trans ?_)
    exact Finset.sum_congr rfl fun e _ => congrArg (fun i => x i * x i) (hl e)
  unfold normalised
  rw [hostDivf_apply, broadcastInDim_apply _ _ _ _ (ix2 b 0) (fun a => by fin_cases a <;> simp [hn] <;> rfl), maximumf_apply,
    broadcastInDim_scalar_apply]
  show Ideal.div _ (max (Ideal.sqrt (broadcastInDim _ _ _ _ _)) (Ideal.ofBits .f32 0x2B8CBCCC#32)) = _
  rw [broadcastInDim_apply _ _ _ _ (ix1 b) (fun a => by fin_cases a <;> simp [hn] <;> rfl), hs, ofBits_least]
  exact div_length _ _

end Rows

/-- The dot product of row `b` of `u` with row `j` of `k`. -/
theorem product_apply (hw : DotDims.WF ⟨2, ![8192, 1024]⟩ ⟨2, ![1024, 64]⟩ ⟨2, ![8192, 64]⟩ [1] [0] [0] [1] [] [])
    (ht : (⟨2, ![64, 1024]⟩ : Shape).Transposes [1, 0] ⟨2, ![1024, 64]⟩)
    (u : FVec Ideal ⟨2, ![8192, 1024]⟩ .f32) (k : FVec Ideal ⟨2, ![64, 1024]⟩ .f32) (b : Fin 8192) (j : Fin 64) :
    Host.dotGeneral (F := Ideal) ⟨[1], [0], [0], [1], [], [], hw⟩ none u (transpose ⟨2, ![1024, 64]⟩ [1, 0] k ht) (ix2 b j)
      = dot (row u b) (row k j) := by
  simp only [Host.dotGeneral]
  rw [Ideal.dotGeneral_apply, ← Equiv.sum_comp (contrEquiv1 ⟨[1], [0], [0], [1], [], [], hw⟩ 1024 rfl rfl).symm]
  refine Finset.sum_congr rfl fun d _ => ?_
  refine congrArg₂ (· * ·) (congrArg u ?_) ?_
  · funext a; match a with | ⟨0, _⟩ => rfl | ⟨1, _⟩ => rfl
  · exact transpose_apply _ _ _ _ (ix2 j d) (fun a => by fin_cases a <;> rfl)

end Cert.Proof.Similarity

end
-- ==== Proof.Take.lean ====
/- How the reference looks prompts up by their positions: a position below 64 survives the correction of negative ones, passes
   the bounds check, and reads its own prompt. -/
module

public import proofs.«01_k».proof.Proof.Gen.ReferenceIdeal
public import Idealize.ShloMosaic.Lib.ValueIdx
public import Idealize.ShloMosaic.Lib.IdealHost
public import Idealize.ShloMosaic.Lib.Pipeline.Value

@[expose] public section

noncomputable section

namespace Cert.Proof.Take

open Cert.ReferenceIdeal Cert.ReferenceIdeal.Gen Idealize.ShloMosaic Idealize.ShloMosaic.ValueIdx

/-- A table of positions with 64 added to the negative ones. -/
def corrected (t : IVec S8192x8 32) : IVec S8192x8 32 :=
  select (cmpi .slt t (broadcastInDim S8192x8 ![] bcast_S_S8192x8 (constantI S_ 32 0#32)))
    (addi t (broadcastInDim S8192x8 ![] bcast_S_S8192x8 (constantI S_ 32 64#32))) t

/-- The corrected table with a last axis of one. -/
def starts (t : IVec S8192x8 32) : IVec S8192x8x1 32 :=
  broadcastInDim S8192x8x1 ![0, 1] bcast_S8192x8_S8192x8x1_0_1 (corrected t)

/-- Where a position lies between 0 and 63. -/
def within (t : IVec S8192x8 32) : IVec S8192x8x1 1 :=
  andi (cmpi .sge (starts t) (broadcastInDim S8192x8x1 ![] bcast_S_S8192x8x1 (constantI S_ 32 0#32)))
    (cmpi .sle (starts t) (broadcastInDim S8192x8x1 ![0, 1, 2] bcast_S1x1x1_S8192x8x1_0_1_2
      (broadcastInDim S1x1x1 ![2] bcast_S1_S1x1x1_2 (constantI S1 32 63#32))))

/-- The prompts at the positions, not a number where a position is out of bounds. -/
def taken (p : FVec Ideal S64x8x1024 .f32) (t : IVec S8192x8 32) : FVec Ideal S8192x8x8x1024 .f32 :=
  select (broadcastInDim S8192x8x8x1024 ![0, 1] bcast_S8192x8_S8192x8x8x1024_0_1
      (Host.reduce IntOp.andi (within t) (constantI S_ 1 1#1) reducesTo_S8192x8x1_S8192x8_d2 h_S_))
    (Host.gather gather_S64x8x1024_S8192x8x1_S8192x8x8x1024_23_0_n_n_0_2_181024 p (starts t))
    (broadcastInDim S8192x8x8x1024 ![] bcast_S_S8192x8x8x1024 (constant (F := Ideal) S_ .f32 0x7FC00000#32))

/-- A word below 64 is not negative. -/
theorem word_corrected : ∀ i : Fin 64,
    Scalar.select (IntOp.cmpi .slt (BitVec.ofNat 32 i.val) 0#32) (IntOp.addi (BitVec.ofNat 32 i.val) 64#32) (BitVec.ofNat 32 i.val)
      = BitVec.ofNat 32 i.val := by decide

/-- A word below 64 lies between 0 and 63. -/
theorem word_within : ∀ i : Fin 64,
    IntOp.andi (IntOp.cmpi .sge (BitVec.ofNat 32 i.val) 0#32) (IntOp.cmpi .sle (BitVec.ofNat 32 i.val) 63#32) = 1#1 := by decide

/-- A word below 64, read as an integer and clamped. -/
theorem word_clamped : ∀ i : Fin 64, min (BitVec.ofNat 32 i.val).toInt.toNat (64 - 1) = i.val := by decide

variable (t : IVec S8192x8 32) (σ : Fin 8192 → Fin 8 → Fin 64) (ht : ∀ b a, t (ix2 b a) = BitVec.ofNat 32 (σ b a).val)

include ht

/-- Positions below 64 are unchanged by the correction. -/
theorem corrected_apply (b : Fin 8192) (a : Fin 8) : corrected t (ix2 b a) = BitVec.ofNat 32 (σ b a).val := by
  unfold corrected
  rw [select_apply]
  show Scalar.select (IntOp.cmpi .slt (t _) (broadcastInDim _ _ _ _ _)) (IntOp.addi (t _) (broadcastInDim _ _ _ _ _)) (t _) = _
  rw [broadcastInDim_scalar_apply, broadcastInDim_scalar_apply, ht]
  exact word_corrected _

/-- So are they with the last axis. -/
theorem starts_apply (b : Fin 8192) (a : Fin 8) (z : Fin 1) : starts t (ix3 b a z) = BitVec.ofNat 32 (σ b a).val := by
  unfold starts
  rw [broadcastInDim_apply _ _ _ _ (ix2 b a) (fun e => by fin_cases e <;> rfl), corrected_apply t σ ht]

/-- Positions below 64 pass the bounds check. -/
theorem within_ix3 (b : Fin 8192) (a : Fin 8) (z : Fin 1) : within t (ix3 b a z) = 1#1 := by
  unfold within
  show IntOp.andi (IntOp.cmpi .sge (starts t _) (broadcastInDim _ _ _ _ _)) (IntOp.cmpi .sle (starts t _) (broadcastInDim _ _ _ _ _)) = _
  rw [broadcastInDim_scalar_apply, broadcastInDim_apply _ _ _ _ (ix3 0 0 0) (fun e => by fin_cases e <;> rfl),
    broadcastInDim_apply _ _ _ _ (ix1 0) (fun e => by fin_cases e <;> rfl), starts_apply t σ ht]
  exact word_within _

/-- So they do at every index. -/
theorem within_apply (j : S8192x8x1.Idx) : within t j = 1#1 :=
  (congrArg (within t) (eq_ix3 j)).trans (within_ix3 t σ ht (j 0) (j 1) (j 2))

/-- The conjunction over the last axis holds everywhere. -/
theorem all_within (j : S8192x8.Idx) :
    Host.reduce IntOp.andi (within t) (constantI S_ 1 1#1) reducesTo_S8192x8x1_S8192x8_d2 h_S_ j = 1#1 := by
  unfold Host.reduce
  generalize (List.finRange _).filter _ = l
  show l.foldl _ 1#1 = 1#1
  induction l with
  | nil => rfl
  | cons n l ih =>
    rw [List.foldl_cons, within_apply t σ ht]
    exact ih

/-- The entry of the prompts that the gather reads. -/
theorem gather_apply (p : FVec Ideal S64x8x1024 .f32) (b : Fin 8192) (a l : Fin 8) (d : Fin 1024) :
    Host.gather gather_S64x8x1024_S8192x8x1_S8192x8x8x1024_23_0_n_n_0_2_181024 p (starts t) (ix4 b a l d)
      = p (ix3 (σ b a) l d) := by
  unfold Host.gather
  refine congrArg p (funext fun e => Fin.ext ?_)
  match e with
  | ⟨0, _⟩ =>
    show GatherDims.start _ _ _ 0 + GatherDims.batchCoord _ _ 0 + GatherDims.offCoord _ _ 0 = (σ b a).val
    rw [GatherDims.batchCoord_eq_zero _ _ _ (by decide), GatherDims.offCoord_eq_zero _ _ _ (by decide)]
    unfold GatherDims.start
    rw [dif_pos (by decide)]
    refine (congrArg (fun w : BitVec 32 => min w.toInt.toNat (64 - 1)) ((congrArg (starts t) ?_).trans (starts_apply t σ ht b a 0))).trans (word_clamped _)
    funext f; match f with | ⟨0, _⟩ => rfl | ⟨1, _⟩ => rfl | ⟨2, _⟩ => rfl
  | ⟨1, _⟩ =>
    show GatherDims.start _ _ _ 1 + GatherDims.batchCoord _ _ 1 + GatherDims.offCoord _ _ 1 = l.val
    rw [GatherDims.batchCoord_eq_zero _ _ _ (by decide)]
    unfold GatherDims.start GatherDims.offCoord
    rw [dif_neg (by decide), dif_pos (by decide), Nat.zero_add]
    rfl
  | ⟨2, _⟩ =>
    show GatherDims.start _ _ _ 2 + GatherDims.batchCoord _ _ 2 + GatherDims.offCoord _ _ 2 = d.val
    rw [GatherDims.batchCoord_eq_zero _ _ _ (by decide)]
    unfold GatherDims.start GatherDims.offCoord
    rw [dif_neg (by decide), dif_pos (by decide), Nat.zero_add]
    rfl

/-- Every entry of the prompts taken is the entry of its own prompt. -/
theorem taken_apply (p : FVec Ideal S64x8x1024 .f32) (b : Fin 8192) (a l : Fin 8) (d : Fin 1024) :
    taken p t (ix4 b a l d) = p (ix3 (σ b a) l d) := by
  unfold taken
  rw [select_apply, broadcastInDim_apply _ _ _ _ (ix2 b a) (fun e => by fin_cases e <;> rfl), all_within t σ ht, select_one,
    gather_apply t σ ht]

end Cert.Proof.Take

end
-- ==== Proof.RefValue.lean ====
/- What the reference computes, entry by entry: to every entry of a row it adds an eighth of the sum of the mean prompts at the
   eight first positions of the order of the row's similarities. -/
module

public import proofs.«01_k».proof.Proof.Rank
public import proofs.«01_k».proof.Proof.Similarity
public import proofs.«01_k».proof.Proof.Take
public import proofs.«01_k».proof.Proof.Gen.ReferenceIdeal.Run

@[expose] public section

noncomputable section

namespace Cert.Proof.RefValue

open Cert.ReferenceIdeal Cert.ReferenceIdeal.Gen Idealize.ShloMosaic Idealize.ShloMosaic.TcCoe Idealize.ShloMosaic.ValueIdx
open Cert.Proof.Norm Cert.Proof.KernelBlock Cert.Proof.Rank Cert.Proof.Similarity Cert.Proof.Take
open scoped BigOperators

/-- The similarities of all rows with all keys. -/
def similarities (x : FVec Ideal S8192x1024 .f32) (k : FVec Ideal S64x1024 .f32) : FVec Ideal S8192x64 .f32 :=
  Host.dotGeneral dot_S8192x1024_S1024x64_S8192x64_1_0_0_1_n_n none
    (normalised reducesTo_S8192x1024_S8192_d1 h_S_ bcast_S8192_S8192x1_0 bcast_S_S8192x1 bcast_S8192x1_S8192x1024_0_1 x)
    (transpose S1024x64 [1, 0] (normalised reducesTo_S64x1024_S64_d1 h_S_ bcast_S64_S64x1_0 bcast_S_S64x1
      bcast_S64x1_S64x1024_0_1 k) transposes_S64x1024_S1024x64_1_0)

/-- The similarity of row `b` and key `j` is the dot product of their unit vectors. -/
def sim (x : FVec Ideal S8192x1024 .f32) (k : FVec Ideal S64x1024 .f32) (b : Fin 8192) (j : Fin 64) : EReal :=
  dot (unit (row x b)) (unit (row k j))

/-- An entry of the similarities. -/
theorem similarities_apply (x : FVec Ideal S8192x1024 .f32) (k : FVec Ideal S64x1024 .f32) (b : Fin 8192) (j : Fin 64) :
    similarities x k (ix2 b j) = sim x k b j := by
  refine (product_apply dot_S8192x1024_S1024x64_S8192x64_1_0_0_1_n_n_wf transposes_S64x1024_S1024x64_1_0 _ _ b j).trans ?_
  refine congrArg₂ dot (funext fun d => ?_) (funext fun d => ?_)
  · exact normalised_apply _ _ _ _ _ (by decide) (by decide) x b d
  · exact normalised_apply _ _ _ _ _ (by decide) (by decide) k j d

/-- The positions of the eight greatest similarities of every row. -/
def best (x : FVec Ideal S8192x1024 .f32) (k : FVec Ideal S64x1024 .f32) : IVec S8192x8 32 :=
  (Host.topK S8192x8 1 (FloatOps.cmpfTotal (F := Ideal) (φ := .f32) .gt) (similarities x k) sliceFits_S8192x64_S8192x8).2

/-- The positions listed for row `b` are the first of its order. -/
theorem best_apply (x : FVec Ideal S8192x1024 .f32) (k : FVec Ideal S64x1024 .f32) (b : Fin 8192) (a : Fin 8) :
    best x k (ix2 b a) = BitVec.ofNat 32 (order (sim x k b) (a.castLE (by decide))).val := by
  unfold best
  rw [indices_apply _ _ (by decide)]
  simp only [similarities_apply]

/-- The mean over the eight rows of each prompt taken. -/
def promptMeans (g : FVec Ideal S8192x8x8x1024 .f32) : FVec Ideal S8192x8x1024 .f32 :=
  Host.divf (Host.reduceAdd g (constant (F := Ideal) S_ .f32 0x00000000#32) reducesTo_S8192x8x8x1024_S8192x8x1024_d2 h_S_)
    (broadcastInDim S8192x8x1024 ![] bcast_S_S8192x8x1024 (constant (F := Ideal) S_ .f32 0x41000000#32))

/-- The mean over the eight prompts taken. -/
def takenMean (q : FVec Ideal S8192x8x1024 .f32) : FVec Ideal S8192x1024 .f32 :=
  Host.divf (Host.reduceAdd q (constant (F := Ideal) S_ .f32 0x00000000#32) reducesTo_S8192x8x1024_S8192x1024_d1 h_S_)
    (broadcastInDim S8192x1024 ![] bcast_S_S8192x1024 (constant (F := Ideal) S_ .f32 0x41000000#32))

/-- Dropping the axis of a prompt's eight rows. -/
theorem reduces_rows : S8192x8x8x1024.Reduces [2] S8192x8x1024 := by decide

/-- Dropping the axis of the eight prompts. -/
theorem reduces_prompts : S8192x8x1024.Reduces [1] S8192x1024 := by decide

/-- The host's division by the word of eight. -/
theorem div_eight (s : EReal) : Ideal.div s (Ideal.ofBits .f32 0x41000000#32) = s * ((1 / 8 : ℝ) : EReal) := by
  rw [ofBits_eight, Ideal.div_coe (by norm_num)]

/-- An entry of the prompts' means. -/
theorem promptMeans_apply (g : FVec Ideal S8192x8x8x1024 .f32) (b : Fin 8192) (a : Fin 8) (d : Fin 1024) :
    promptMeans g (ix3 b a d) = (∑ l : Fin 8, g (ix4 b a l d)) * ((1 / 8 : ℝ) : EReal) := by
  unfold promptMeans
  rw [hostDivf_apply, hostReduceAdd_apply, broadcastInDim_scalar_apply]
  refine (div_eight _).trans (congrArg (· * ((1 / 8 : ℝ) : EReal)) ?_)
  refine (Ideal.hostReduceAdd_single _ reduces_rows _ _ _).trans ?_
  refine (congrArg (· + _) Ideal.ofBits_zero_f32).trans ((zero_add _).trans ?_)
  exact Finset.sum_congr rfl fun l _ => congrArg g (by
    funext e; match e with | ⟨0, _⟩ => rfl | ⟨1, _⟩ => rfl | ⟨2, _⟩ => rfl | ⟨3, _⟩ => rfl)

/-- An entry of the mean over the prompts taken. -/
theorem takenMean_apply (q : FVec Ideal S8192x8x1024 .f32) (b : Fin 8192) (d : Fin 1024) :
    takenMean q (ix2 b d) = (∑ a : Fin 8, q (ix3 b a d)) * ((1 / 8 : ℝ) : EReal) := by
  unfold takenMean
  rw [hostDivf_apply, hostReduceAdd_apply, broadcastInDim_scalar_apply]
  refine (div_eight _).trans (congrArg (· * ((1 / 8 : ℝ) : EReal)) ?_)
  refine (Ideal.hostReduceAdd_single _ reduces_prompts _ _ _).trans ?_
  refine (congrArg (· + _) Ideal.ofBits_zero_f32).trans ((zero_add _).trans ?_)
  exact Finset.sum_congr rfl fun l _ => congrArg q (by
    funext e; match e with | ⟨0, _⟩ => rfl | ⟨1, _⟩ => rfl | ⟨2, _⟩ => rfl)

/-- The reference as one function of its argument arrays. -/
def result (x : FVec Ideal S8192x1024 .f32) (p : FVec Ideal S64x8x1024 .f32) (k : FVec Ideal S64x1024 .f32) :
    FVec Ideal S8192x1024 .f32 :=
  addf x (takenMean (promptMeans (taken p (best x k))))

/-- The array the reference returns is this function's. -/
theorem returned_eq (m : (ℓ : Loc nD τ sig) → Buf (Elt Ideal) ℓ) (c : Dev nD) :
    Cert.ReferenceIdeal.Value.res_out0 (F := Ideal) m c = result (m ((c.tc : Thread nD τ).loc main_arg0))
      (m ((c.tc : Thread nD τ).loc main_arg1)) (m ((c.tc : Thread nD τ).loc main_arg2)) := rfl

/-- An entry of the reference's result. -/
theorem result_apply (x : FVec Ideal S8192x1024 .f32) (p : FVec Ideal S64x8x1024 .f32) (k : FVec Ideal S64x1024 .f32)
    (b : Fin 8192) (d : Fin 1024) :
    result x p k (ix2 b d) = x (ix2 b d)
      + (∑ a : Fin 8, mean p (order (sim x k b) (a.castLE (by decide))) d) * ((1 / 8 : ℝ) : EReal) := by
  unfold result
  rw [addf_apply, takenMean_apply]
  simp only [promptMeans_apply,
    taken_apply (best x k) (fun b a => order (sim x k b) (a.castLE (by decide))) (fun b a => best_apply x k b a)]
  rfl

end Cert.Proof.RefValue

end
-- ==== Proof.Distinct.lean ====
/- What the precondition says: in every row of the similarities the nine greatest are distinct. Hence the order of the row ranks
   them strictly, and the row's length is finite, since otherwise all similarities of the row would be zero. -/
module

public import proofs.«01_k».proof.Proof.RefValue
public import proofs.«01_k».proof.Proof.Gen.Pre_top_nine_distinct

@[expose] public section

noncomputable section

namespace Cert.Proof.Distinct

open Idealize.ShloMosaic Idealize.ShloMosaic.ValueIdx
open Cert.Proof.Norm Cert.Proof.Select Cert.Proof.KernelBlock Cert.Proof.Rank Cert.Proof.RefValue

variable (x : FVec Ideal ⟨2, ![8192, 1024]⟩ .f32) (p : FVec Ideal ⟨3, ![64, 8, 1024]⟩ .f32) (k : FVec Ideal ⟨2, ![64, 1024]⟩ .f32)

/-- The nine greatest similarities of every row, greatest first. -/
def nine : FVec Ideal ⟨2, ![8192, 9]⟩ .f32 :=
  (Host.topK ⟨2, ![8192, 9]⟩ 1 (FloatOps.cmpfTotal (F := Ideal) (φ := .f32) .gt) (similarities x k)
    Cert.Pre_top_nine_distinct.Facts.sliceFits_S8192x64_S8192x9).1

/-- An entry of them. -/
theorem nine_apply (b : Fin 8192) (a : Fin 9) :
    nine x k (ix2 b a) = sim x k b (order (sim x k b) (a.castLE (by decide))) := by
  unfold nine
  rw [values_apply _ _ (by decide)]
  simp only [similarities_apply]

/-- The precondition compares each of the first eight with its successor. -/
theorem fn_eq : Cert.Pre_top_nine_distinct.fn (F := Ideal) x p k
    = cmpf .ogt (extractStridedSlice ⟨2, ![8192, 8]⟩ ![0, 0] (nine x k) Cert.Pre_top_nine_distinct.Facts.slices_S8192x9_S8192x8_0_0)
        (extractStridedSlice ⟨2, ![8192, 8]⟩ ![0, 1] (nine x k) Cert.Pre_top_nine_distinct.Facts.slices_S8192x9_S8192x8_0_1) := rfl

variable (h : Cert.Pre_top_nine_distinct.fn (F := Ideal) x p k = fun _ => 1#1)

include h

/-- Each of the first eight is greater than its successor. -/
theorem descends (b : Fin 8192) (a : Fin 8) :
    sim x k b (order (sim x k b) (a.succ.castLE (by decide))) < sim x k b (order (sim x k b) (a.castSucc.castLE (by decide))) := by
  have e := congrFun ((fn_eq x p k).symm.trans h) (ix2 b a)
  rw [cmpf_apply, extractStridedSlice_apply _ _ _ _ (ix2 b a.castSucc) (fun e => by fin_cases e <;> simp),
    extractStridedSlice_apply _ _ _ _ (ix2 b a.succ) (fun e => by fin_cases e <;> simp <;> exact Nat.add_comm _ _), nine_apply, nine_apply] at e
  by_contra hn
  have : FloatOps.cmpf (F := Ideal) (φ := .f32) .ogt (sim x k b (order (sim x k b) (a.castSucc.castLE (by decide))))
      (sim x k b (order (sim x k b) (a.succ.castLE (by decide)))) = 0#1 := by
    rw [Ideal.cmpf_def]
    show BitVec.ofBool (decide (_ < _)) = _
    rw [decide_eq_false hn]
    rfl
  exact absurd (e.symm.trans this) (by decide)

/-- The order of a row ranks its similarities. -/
theorem ranks_sim (b : Fin 8192) : Ranks (order (sim x k b)) (sim x k b) :=
  ⟨order_bijective _, order_anti _, fun i j hij hi =>
    (order_anti (sim x k b) ((⟨i.val, hi⟩ : Fin 8).succ.castLE (by decide)) j (by
      rw [Fin.le_def]; exact hij)).trans_lt (descends x p k h b ⟨i.val, hi⟩)⟩

/-- The length of every row is finite. -/
theorem length_ne_top (b : Fin 8192) : length (row x b) ≠ ⊤ := fun ht => by
  have := descends x p k h b 0
  unfold sim at this
  rw [dot_unit_top ht, dot_unit_top ht] at this
  exact lt_irrefl _ this

/-- The same order ranks the similarities that are not divided by the row's length. -/
theorem ranks (b : Fin 8192) : Ranks (order (sim x k b)) (fun j => dot (unit (row k j)) (row x b)) := by
  refine Ranks.of_comp (strictMono_div (length_ne_top x p k h b)) ?_
  have e : (fun j => dot (unit (row k j)) (row x b) * (length (row x b))⁻¹) = sim x k b :=
    funext fun j => (dot_unit (length_ne_top x p k h b) _).symm
  rw [e]
  exact ranks_sim x p k h b

end Cert.Proof.Distinct

end
-- ==== Proof.Equation.lean ====
/- The equation: where the nine greatest similarities of every row are distinct, the kernel's result and the reference's are the
   same array. -/
module

public import proofs.«01_k».proof.Proof.KernelArray
public import proofs.«01_k».proof.Proof.Distinct

@[expose] public section

noncomputable section

namespace Cert.Proof.Equation

open Idealize.ShloMosaic Idealize.ShloMosaic.ValueIdx
open Cert.Proof.Norm Cert.Proof.Select Cert.Proof.KernelBlock Cert.Proof.Rank Cert.Proof.RefValue
open scoped BigOperators

variable (x : FVec Ideal ⟨2, ![8192, 1024]⟩ .f32) (p : FVec Ideal ⟨3, ![64, 8, 1024]⟩ .f32) (k : FVec Ideal ⟨2, ![64, 1024]⟩ .f32)

/-- The kernel's value at an entry is the reference's: the keys that reach the threshold are those at the eight first positions
    of the row's order, and the factor one eighth comes out of the sum. -/
theorem value_eq (h : Cert.Pre_top_nine_distinct.fn (F := Ideal) x p k = fun _ => 1#1) (b : Fin 8192) (d : Fin 1024) :
    KernelArray.value x p k b d = result x p k (ix2 b d) := by
  rw [result_apply]
  unfold KernelArray.value
  rw [sum_reaching (Distinct.ranks x p k h b) (fun j => mean p j d * ((1 / 8 : ℝ) : EReal)),
    ← sum_mul_of_finite _ (EReal.coe_nonneg.2 (by norm_num)) (EReal.coe_ne_top _)]

open Cert.KernelIdeal Idealize.ShloMosaic.TcCoe in
/-- The kernel's result array is the reference's function of the kernel's argument arrays. -/
theorem result_eq (m : (ℓ : Loc nD τ sig) → Buf (Elt Ideal) ℓ) (c : Dev nD)
    (h : Cert.Pre_top_nine_distinct.fn (F := Ideal) (m ((c : Thread nD τ).loc main_arg0)) (m ((c : Thread nD τ).loc main_arg1))
      (m ((c : Thread nD τ).loc main_arg2)) = fun _ => 1#1) :
    (result (m ((c : Thread nD τ).loc main_arg0)) (m ((c : Thread nD τ).loc main_arg1)) (m ((c : Thread nD τ).loc main_arg2))
      : FVec Ideal ⟨2, ![8192, 1024]⟩ .f32) = Value.G3 m c := by
  funext i
  rw [eq_ix2 i]
  exact ((KernelArray.result_apply m c (i 0) (i 1)).trans (value_eq _ _ _ h (i 0) (i 1))).symm

end Cert.Proof.Equation

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_top_nine_distinct
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments unchanged and ends with every semaphore at zero, as it names none. -/
theorem reference_quiescent (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- Where the nine greatest similarities of every row are distinct, the kernel and the reference end with equal results. -/
theorem algebraic : Cert.algebraic_KernelIdeal_ReferenceIdeal_pre_top_nine_distinct := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨e0, e1, e2⟩ := hagree c
  refine ((h c).1.trans (RefValue.returned_eq m' c)).trans ?_
  rw [e0, e1, e2]
  exact Equation.result_eq m c (hpre c)

/-- All the claims. -/
theorem claim : Cert.Claim :=
  ⟨Cert.Kernel.Gen.facts, Cert.KernelIdeal.Gen.facts, Cert.ReferenceIdeal.Gen.facts, Cert.Pre_top_nine_distinct.Gen.facts,
    fun m ρ _ => Cert.Kernel.Gen.frame m ρ,
    fun m ρ _ => Cert.KernelIdeal.Gen.frame m ρ,
    fun m ρ _ => Cert.KernelIdeal.Gen.frame m ρ,
    fun m ρ _ => reference_quiescent m ρ,
    fun m ρ _ => reference_quiescent m ρ,
    IdealRules.named_const.statement Cert.KernelIdeal.κ "norm_min_sq" .f32 0x179ABE15#32
      ((5316911940649 / 5316911983139663491615228241121378304 : ℝ) : EReal) rfl,
    algebraic⟩

end Cert.Proof

end
